-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_are_classes [hPre_targets_are_classes : Cert.Pre_targets_are_classes.Facts] (m : (ℓ : Loc Cert.KernelIdeal.nD Cert.KernelIdeal.τ Cert.KernelIdeal.sig) → Buf (Elt Ideal) ℓ) : Prop :=
  ∀ c : Dev Cert.KernelIdeal.nD,
    (Cert.Pre_targets_are_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_are_classes [hPre_targets_are_classes : Cert.Pre_targets_are_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_are_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_targets_are_classes [hKernelIdeal : Cert.KernelIdeal.Facts] [hPre_targets_are_classes : Cert.Pre_targets_are_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_are_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_targets_are_classes [hReferenceIdeal : Cert.ReferenceIdeal.Facts] [hPre_targets_are_classes : Cert.Pre_targets_are_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_are_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_targets_are_classes [hKernelIdeal : Cert.KernelIdeal.Facts] [hReferenceIdeal : Cert.ReferenceIdeal.Facts] [hPre_targets_are_classes : Cert.Pre_targets_are_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_are_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_targets_are_classes : Cert.Pre_targets_are_classes.Facts),
    quiescent_Kernel (hKernel := hKernel)
    ∧ quiescent_KernelIdeal (hKernelIdeal := hKernelIdeal)
    ∧ quiescent_KernelIdeal_pre_targets_are_classes (hKernelIdeal := hKernelIdeal) (hPre_targets_are_classes := hPre_targets_are_classes)
    ∧ quiescent_ReferenceIdeal (hReferenceIdeal := hReferenceIdeal)
    ∧ quiescent_ReferenceIdeal_pre_targets_are_classes (hReferenceIdeal := hReferenceIdeal) (hPre_targets_are_classes := hPre_targets_are_classes)
    ∧ preserves_Kernel_KernelIdeal
    ∧ algebraic_KernelIdeal_ReferenceIdeal_pre_targets_are_classes (hKernelIdeal := hKernelIdeal) (hReferenceIdeal := hReferenceIdeal) (hPre_targets_are_classes := hPre_targets_are_classes)
-- ==== Pre_targets_are_classes.lean ====
abbrev S16384x1000 : Shape := ⟨2, ![16384, 1000]⟩
abbrev S16384 : Shape := ⟨1, ![16384]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : FVec F S16384x1000 .f32) (main_arg1 : IVec S16384 32) : IVec S16384 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000#32
  let main_v2 : IVec S16384 32 := broadcastInDim S16384 ![] bcast_S_S16384 main_c_0
  let main_v3 : IVec S16384 1 := cmpi .slt main_arg1 main_v2
  let main_v4 : IVec S16384 1 := andi main_v1 main_v3
  main_v4
-- ==== Kernel.lean ====
abbrev S16384x1000 : Shape := ⟨2, ![16384, 1000]⟩
abbrev S16384 : Shape := ⟨1, ![16384]⟩
abbrev S1000x16384 : Shape := ⟨2, ![1000, 16384]⟩
abbrev S1x16384 : Shape := ⟨2, ![1, 16384]⟩
abbrev S1x1 : Shape := ⟨2, ![1, 1]⟩
abbrev S_ : Shape := ⟨0, ![]⟩
abbrev S1000x2048 : Shape := ⟨2, ![1000, 2048]⟩
abbrev S1x2048 : Shape := ⟨2, ![1, 2048]⟩
abbrev S8x2048 : Shape := ⟨2, ![8, 2048]⟩
abbrev S2048 : Shape := ⟨1, ![2048]⟩
abbrev S1x1x2048 : Shape := ⟨3, ![1, 1, 2048]⟩
abbrev S1 : Shape := ⟨1, ![1]⟩
abbrev S1x1x1 : Shape := ⟨3, ![1, 1, 1]⟩

abbrev nBuf : Space → Nat
  | .hbm => 6
  | .vmem => 4
  | .smem => 1
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x16384, .f32⟩
  | .hbm, ⟨3, _⟩ => ⟨S1x16384, .i32⟩
  | .hbm, ⟨4, _⟩ => ⟨S1x1, .f32⟩
  | .hbm, ⟨5, _⟩ => ⟨S_, .f32⟩
  | .local _ .vmem, ⟨0, _⟩ => ⟨S1000x2048, .f32⟩
  | .local _ .vmem, ⟨1, _⟩ => ⟨S1000x2048, .f32⟩
  | .local _ .vmem, ⟨2, _⟩ => ⟨S1x2048, .i32⟩
  | .local _ .vmem, ⟨3, _⟩ => ⟨S1x2048, .i32⟩
  | .local _ .smem, ⟨0, _⟩ => ⟨S1x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c5_i32 : BitVec 32 := 5#32
  let v7 : BitVec 32 := Scalar.addi c0_i32 c5_i32
  let c1_i32 : BitVec 32 := 1#32
  ⟨c0_i32, v7, c1_i32⟩
def k0_off1 (k0_t1 : Fin k0_t1_loop.trips) (c0_i32_15 : BitVec 32) : Fin 2 → Nat :=
  let c0_i32 : BitVec 32 := 0#32
  let c1_i32 : BitVec 32 := 1#32
  let arg4 : BitVec 32 := Scf.iv c0_i32 c1_i32 k0_t1
  let c200_i32 : BitVec 32 := 200#32
  let v36 : BitVec 32 := Scalar.muli arg4 c200_i32
  let v37 : BitVec 32 := Scalar.addi v36 c0_i32_15
  let v38 : Index := Scalar.indexCast v37
  let c0_16 : Index := 0#32
  ![v38.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S16384x2 : Shape := ⟨2, ![16384, 2]⟩

abbrev nBuf : Space → Nat
  | .hbm => 61
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .f32⟩
  | .hbm, ⟨3, _⟩ => ⟨S16384x1000, .f32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x1, .i32⟩
  | .hbm, ⟨21, _⟩ => ⟨S16384x2, .i32⟩
  | .hbm, ⟨22, _⟩ => ⟨S_, .f32⟩
  | .hbm, ⟨23, _⟩ => ⟨S16384, .f32⟩
  | .hbm, ⟨24, _⟩ => ⟨S16384x1000, .f32⟩
  | .hbm, ⟨25, _⟩ => ⟨S_, .f32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384x1, .f32⟩
  | .hbm, ⟨31, _⟩ => ⟨S16384x1000, .f32⟩
  | .hbm, ⟨32, _⟩ => ⟨S16384x1000, .f32⟩
  | .hbm, ⟨33, _⟩ => ⟨S16384x1000, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1000, .f32⟩
  | .hbm, ⟨38, _⟩ => ⟨S16384x1000, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16384x1000, .f32⟩
  | .hbm, ⟨43, _⟩ => ⟨S16384x1000, .f32⟩
  | .hbm, ⟨44, _⟩ => ⟨S_, .f32⟩
  | .hbm, ⟨45, _⟩ => ⟨S16384x1000, .f32⟩
  | .hbm, ⟨46, _⟩ => ⟨S16384x1000, .f32⟩
  | .hbm, ⟨47, _⟩ => ⟨S_, .f32⟩
  | .hbm, ⟨48, _⟩ => ⟨S16384x1000, .f32⟩
  | .hbm, ⟨49, _⟩ => ⟨S16384x1000, .f32⟩
  | .hbm, ⟨50, _⟩ => ⟨S16384x1000, .f32⟩
  | .hbm, ⟨51, _⟩ => ⟨S16384x1000, .f32⟩
  | .hbm, ⟨52, _⟩ => ⟨S_, .f32⟩
  | .hbm, ⟨53, _⟩ => ⟨S16384x1000, .f32⟩
  | .hbm, ⟨54, _⟩ => ⟨S16384x1000, .f32⟩
  | .hbm, ⟨55, _⟩ => ⟨S_, .f32⟩
  | .hbm, ⟨56, _⟩ => ⟨S16384x1000, .f32⟩
  | .hbm, ⟨57, _⟩ => ⟨S16384x1000, .f32⟩
  | .hbm, ⟨58, _⟩ => ⟨S16384x1000, .f32⟩
  | .hbm, ⟨59, _⟩ => ⟨S_, .f32⟩
  | .hbm, ⟨60, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_cst_8 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_12 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== Proof.Trip.lean ====
/-
  One trip of the kernel's loop over the class rows of a block: it adds the exponentials of 25 slabs of 8 rows to the
  first carried array, and the entries whose row is the column's target to the second.
-/
module

public import proofs.«01_k».proof.Proof.Gen.KernelIdeal.Loops
public import Idealize.ShloMosaic.Lib.Pointwise
public import Idealize.ShloMosaic.Lib.WordCmp
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.KernelIdeal Cert.KernelIdeal.Gen

/-- Row `n` of column `b` of a block of 1000 rows; zero past the last row. -/
def row (x : Vec Ideal S1000x2048 .f32) (b : Fin 2048) (n : ℕ) : EReal :=
  if h : n < 1000 then x (ix2 ⟨n, h⟩ b) else 0

/-- The exponential of row `n` of column `b`. -/
def expRow (x : Vec Ideal S1000x2048 .f32) (b : Fin 2048) (n : ℕ) : EReal := Ideal.exp (row x b n)

/-- Row `n` of column `b` where the target word `t` is `n`, zero elsewhere. -/
def hitRow (t : BitVec 32) (x : Vec Ideal S1000x2048 .f32) (b : Fin 2048) (n : ℕ) : EReal :=
  if t = BitVec.ofNat 32 n then row x b n else 0

/-- The first row of a slab, as the 32-bit word the kernel computes: `200 k + w`. -/
theorem slab_word (k w : ℕ) :
    Scalar.addi (Scalar.muli (Scf.iv 0#32 1#32 k) 200#32) (BitVec.ofNat 32 w) = BitVec.ofNat 32 (200 * k + w) := by
  unfold Scalar.addi Scalar.muli IntOp.addi IntOp.muli Scf.iv
  apply BitVec.eq_of_toNat_eq
  simp only [BitVec.toNat_add, BitVec.toNat_mul, BitVec.toNat_ofNat]
  omega

/-- The same word read as a row number. -/
theorem slab_row (k w : ℕ) (hk : k < 5) (hw : w < 200) :
    BitVec.toNat (Scalar.indexCast (Scalar.addi (Scalar.muli (Scf.iv 0#32 1#32 k) 200#32) (BitVec.ofNat 32 w)))
      = 200 * k + w := by
  rw [slab_word]
  show (BitVec.ofNat 32 (200 * k + w)).toNat = _
  rw [BitVec.toNat_ofNat, Nat.mod_eq_of_lt (by omega)]

/-- An entry loaded from the slab at offset `w` of trip `k` is row `200 k + w + a` of its column. -/
theorem slab_read (x : Vec Ideal S1000x2048 .f32) (b : Fin 2048) (k w a : ℕ) (hk : k < 5) (hw : w < 200)
    (h : BitVec.toNat (Scalar.indexCast (Scalar.addi (Scalar.muli (Scf.iv 0#32 1#32 k) 200#32) (BitVec.ofNat 32 w))) + a < 1000) :
    x (ix2 ⟨BitVec.toNat (Scalar.indexCast (Scalar.addi (Scalar.muli (Scf.iv 0#32 1#32 k) 200#32) (BitVec.ofNat 32 w))) + a, h⟩ b)
      = row x b (200 * k + w + a) := by
  have e := slab_row k w hk hw
  unfold row
  rw [dif_pos (by omega)]
  congr 3
  omega

/-- Selecting by the kernel's comparison: the target less the row within the slab against the slab's first row. -/
theorem slab_select (t : BitVec 32) (x : Vec Ideal S1000x2048 .f32) (b : Fin 2048) (k w a : ℕ) :
    Scalar.select (IntOp.cmpi CmpIPredicate.eq (IntOp.subi t (BitVec.ofNat 32 a))
        (Scalar.addi (Scalar.muli (Scf.iv 0#32 1#32 k) 200#32) (BitVec.ofNat 32 w))) (row x b (200 * k + w + a)) 0
      = hitRow t x b (200 * k + w + a) := by
  rw [slab_word, WordCmp.cmpi_eq_eq]
  unfold Scalar.select hitRow
  have h : (IntOp.subi t (BitVec.ofNat 32 a) = BitVec.ofNat 32 (200 * k + w)) ↔ t = BitVec.ofNat 32 (200 * k + w + a) := by
    show t - BitVec.ofNat 32 a = _ ↔ _
    rw [BitVec.ofNat_add (200 * k + w) a]
    constructor
    · intro e; rw [← e, BitVec.sub_add_cancel]
    · intro e; rw [e, BitVec.add_sub_cancel]
  simp only [show (1 : BitVec 1) = 1#1 from rfl, WordCmp.ofBool_decide_eq_one_iff, h]

variable (𝒱 : Variants) (c : Dev nD) (bd : Option 𝒱.V) (i : grid0.Coords) (arg1 : Memref sig .tc .vmem S1000x2048 .f32)
  (harg1 : arg1.IsWhole) (arg2 : Memref sig .tc .vmem S1x2048 .i32) (harg2 : arg2.IsWhole)
  (arg3 : Memref sig .tc .smem S1x1 .f32) (harg3 : arg3.IsWhole)

/-- Trip `k` adds to the first carried array the exponentials of rows `200 k + 8 j + a`, `j < 25`. -/
theorem trip_fst (v0 : Vec Ideal S1x2048 .i32) (x : Vec Ideal S1000x2048 .f32) (k : Fin k0_t1_loop.trips)
    (acc : FVec Ideal S8x2048 .f32 × FVec Ideal S8x2048 .f32) (a : Fin 8) (b : Fin 2048) :
    (tripR_k0_t1 (F := Ideal) 𝒱 c bd i arg1 harg1 arg2 harg2 arg3 harg3 v0 (harg1.unread x) k acc).1 (ix2 a b)
      = acc.1 (ix2 a b) + ∑ j ∈ Finset.range 25, expRow x b (200 * k.val + 8 * j + a) := by
  have hk : k.val < 5 := Nat.lt_of_lt_of_le k.isLt k0_t1_abs.2.1
  unfold tripR_k0_t1 trip_k0_t1
  dsimp only
  sl_unfold_words
  simp only [View.readAt_eq_ld, harg1.read_unread]
  pointwise [
    k0_pay1, k0_pay3, k0_pay4, k0_pay5, k0_pay6, k0_pay7, k0_pay9, k0_pay10, k0_pay11, k0_pay12, k0_pay13,
    k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33,
    k0_pay34, k0_pay35, k0_pay36, k0_pay37, k0_pay38, k0_pay39, k0_pay40, k0_pay41, k0_pay42, k0_pay43,
    k0_pay44, k0_pay45]
  simp (discharger := omega) only [slab_read x b _ _ _ hk, expRow, Finset.sum_range_succ, Finset.sum_range_zero, zero_add,
    ← add_assoc, Nat.reduceMul]

/-- Trip `k` adds to the second carried array those of the same rows that the column's target names. -/
theorem trip_snd (v0 : Vec Ideal S1x2048 .i32) (x : Vec Ideal S1000x2048 .f32) (k : Fin k0_t1_loop.trips)
    (acc : FVec Ideal S8x2048 .f32 × FVec Ideal S8x2048 .f32) (a : Fin 8) (b : Fin 2048) :
    (tripR_k0_t1 (F := Ideal) 𝒱 c bd i arg1 harg1 arg2 harg2 arg3 harg3 v0 (harg1.unread x) k acc).2 (ix2 a b)
      = acc.2 (ix2 a b) + ∑ j ∈ Finset.range 25, hitRow (v0 (ix2 0 b)) x b (200 * k.val + 8 * j + a) := by
  have hk : k.val < 5 := Nat.lt_of_lt_of_le k.isLt k0_t1_abs.2.1
  unfold tripR_k0_t1 trip_k0_t1
  dsimp only
  sl_unfold_words
  simp only [View.readAt_eq_ld, harg1.read_unread]
  pointwise [
    k0_pay1, k0_pay3, k0_pay4, k0_pay5, k0_pay6, k0_pay7, k0_pay9, k0_pay10, k0_pay11, k0_pay12, k0_pay13,
    k0_pay14, k0_pay15, k0_pay16, k0_pay17, k0_pay18, k0_pay19, k0_pay20, k0_pay21, k0_pay22, k0_pay23,
    k0_pay24, k0_pay25, k0_pay26, k0_pay27, k0_pay28, k0_pay29, k0_pay30, k0_pay31, k0_pay32, k0_pay33,
    k0_pay34, k0_pay35, k0_pay36, k0_pay37, k0_pay38, k0_pay39, k0_pay40, k0_pay41, k0_pay42, k0_pay43,
    k0_pay44, k0_pay45]
  simp (discharger := omega) only [slab_read x b _ _ _ hk, slab_select, Finset.sum_range_succ, Finset.sum_range_zero,
    zero_add, ← add_assoc, Nat.reduceMul]

end Cert.KernelIdeal.Hand

end
-- ==== Proof.Loop.lean ====
/-
  The kernel's loop over a block: after its five trips the two carried arrays, summed over their eight rows, are the sum of
  the exponentials of a column of the block and the entry the column's target names.
-/
module

public import proofs.«01_k».proof.Proof.Trip

@[expose] public section

set_option maxRecDepth 16384

noncomputable section

namespace Cert.KernelIdeal.Hand

open Idealize.ShloMosaic Idealize.ShloMosaic.TcCoe Idealize.SL.Sem
open Cert.KernelIdeal Cert.KernelIdeal.Gen

/-- The zero array the loop starts from. -/
theorem start_zero (j : S8x2048.Idx) : k0_pay2 (F := Ideal) j = 0 := by pointwise [k0_pay2]

variable (𝒱 : Variants) (c : Dev nD) (bd : Option 𝒱.V) (i : grid0.Coords) (arg1 : Memref sig .tc .vmem S1000x2048 .f32)
  (harg1 : arg1.IsWhole) (arg2 : Memref sig .tc .vmem S1x2048 .i32) (harg2 : arg2.IsWhole)
  (arg3 : Memref sig .tc .smem S1x1 .f32) (harg3 : arg3.IsWhole)

/-- After `n` trips both carried arrays hold the sums over the slabs of those trips. -/
theorem after_trips (v0 : Vec Ideal S1x2048 .i32) (x : Vec Ideal S1000x2048 .f32) (a : Fin 8) (b : Fin 2048) :
    ∀ n : ℕ, n ≤ k0_t1_loop.trips →
    (st_k0_t1 (F := Ideal) 𝒱 c bd i arg1 harg1 arg2 harg2 arg3 harg3 v0 (harg1.unread x) (k0_pay2, k0_pay2) n).1 (ix2 a b)
        = ∑ k ∈ Finset.range n, ∑ j ∈ Finset.range 25, expRow x b (200 * k + 8 * j + a)
    ∧ (st_k0_t1 (F := Ideal) 𝒱 c bd i arg1 harg1 arg2 harg2 arg3 harg3 v0 (harg1.unread x) (k0_pay2, k0_pay2) n).2 (ix2 a b)
        = ∑ k ∈ Finset.range n, ∑ j ∈ Finset.range 25, hitRow (v0 (ix2 0 b)) x b (200 * k + 8 * j + a)
  | 0, _ => by
    rw [st_k0_t1_zero, Finset.range_zero, Finset.sum_empty, Finset.sum_empty]
    exact ⟨start_zero (ix2 a b), start_zero (ix2 a b)⟩
  | n + 1, h => by
    have ih := after_trips v0 x a b n (Nat.le_of_succ_le h)
    have hs := st_k0_t1_succ (F := Ideal) 𝒱 c bd i arg1 harg1 arg2 harg2 arg3 harg3 v0 (harg1.unread x)
      (k0_pay2, k0_pay2) ⟨n, h⟩
    dsimp only at hs
    rw [hs, trip_fst, trip_snd, ih.1, ih.2]
    exact ⟨(Finset.sum_range_succ _ n).symm, (Finset.sum_range_succ _ n).symm⟩

/-- Summing `A` groups of `B` consecutive numbers is summing the first `A * B` numbers. -/
theorem sum_groups (g : ℕ → EReal) (A B : ℕ) :
    ∑ q ∈ Finset.range A, ∑ r ∈ Finset.range B, g (B * q + r) = ∑ n ∈ Finset.range (A * B), g n := by
  induction A with
  | zero => simp
  | succ A ih => rw [Finset.sum_range_succ, ih, Nat.succ_mul, Finset.sum_range_add, Nat.mul_comm A B]

/-- Five trips of 25 slabs of 8 rows are the 1000 rows, in another order. -/
theorem sum_slabs (f : ℕ → EReal) :
    ∑ a : Fin 8, ∑ k ∈ Finset.range 5, ∑ j ∈ Finset.range 25, f (200 * k + 8 * j + a) = ∑ n : Fin 1000, f n := by
  rw [← Finset.sum_range (fun a => ∑ k ∈ Finset.range 5, ∑ j ∈ Finset.range 25, f (200 * k + 8 * j + a)),
    ← Finset.sum_range f, ← sum_groups f 125 8, ← sum_groups (fun q => ∑ a ∈ Finset.range 8, f (8 * q + a)) 5 25,
    Finset.sum_comm]
  refine Finset.sum_congr rfl fun k _ => ?_
  rw [Finset.sum_comm]
  refine Finset.sum_congr rfl fun j _ => Finset.sum_congr rfl fun a _ => ?_
  rw [show 8 * (25 * k + j) + a = 200 * k + 8 * j + a by omega]

/-- The loop makes five trips. -/
theorem trips_five : k0_t1_loop.trips = 5 := by decide +kernel

/-- After the loop the first carried array, summed over its rows, is the sum of a column's exponentials. -/
theorem loop_fst (v0 : Vec Ideal S1x2048 .i32) (x : Vec Ideal S1000x2048 .f32) (b : Fin 2048) :
    ∑ a : Fin 8, (st_k0_t1 (F := Ideal) 𝒱 c bd i arg1 harg1 arg2 harg2 arg3 harg3 v0 (harg1.unread x) (k0_pay2, k0_pay2)
        k0_t1_loop.trips).1 (ix2 a b) = ∑ n : Fin 1000, expRow x b n := by
  rw [← sum_slabs]
  refine Finset.sum_congr rfl fun a _ => ?_
  rw [(after_trips 𝒱 c bd i arg1 harg1 arg2 harg2 arg3 harg3 v0 x a b _ le_rfl).1, trips_five]

/-- After the loop the second carried array, summed over its rows, is the entry of the column the target names. -/
theorem loop_snd (v0 : Vec Ideal S1x2048 .i32) (x : Vec Ideal S1000x2048 .f32) (b : Fin 2048) :
    ∑ a : Fin 8, (st_k0_t1 (F := Ideal) 𝒱 c bd i arg1 harg1 arg2 harg2 arg3 harg3 v0 (harg1.unread x) (k0_pay2, k0_pay2)
        k0_t1_loop.trips).2 (ix2 a b) = ∑ n : Fin 1000, hitRow (v0 (ix2 0 b)) x b n := by
  rw [← sum_slabs]
  refine Finset.sum_congr rfl fun a _ => ?_
  rw [(after_trips 𝒱 c bd i arg1 harg1 arg2 harg2 arg3 harg3 v0 x a b _ le_rfl).2, trips_five]

end Cert.KernelIdeal.Hand

end
-- ==== Proof.Focal.lean ====
/-
  The focal loss of one clipped probability, over the extended reals.
-/
module

public import Idealize.ShloMosaic.PureOps.Ideal.Laws

@[expose] public section

noncomputable section

namespace Cert.Focal

open Idealize.ShloMosaic

/-- The lower clipping bound, the f32 word of 1e-07. -/
def lo : EReal := Ideal.ofBits .f32 0x33D6BF95#32

/-- The upper clipping bound, the f32 word of 1 - 1e-07. -/
def hi : EReal := Ideal.ofBits .f32 0x3F7FFFFE#32

/-- Clipping to the two bounds. -/
def clip (p : EReal) : EReal := min hi (max lo p)

/-- The loss of a probability `q`: `-log q` times `1 - q` twice. -/
def loss (q : EReal) : EReal := (0 - Ideal.log q) * (1 - q) * (1 - q)

end Cert.Focal

end
-- ==== Proof.Block.lean ====
/-
  What one grid point leaves in the one-entry result block: the sum of the losses of the block's 2048 columns, added to
  zero at the first point and to what the point before left at the others.
-/
module

public import proofs.«01_k».proof.Proof.Loop
public import proofs.«01_k».proof.Proof.Focal
public import proofs.«01_k».proof.Proof.Gen.KernelIdeal.Frame

@[expose] public section

set_option maxRecDepth 16384

noncomputable section

namespace Cert.KernelIdeal.Hand

open Idealize.ShloMosaic Idealize.ShloMosaic.TcCoe Idealize.SL.Sem
open Cert.KernelIdeal Cert.KernelIdeal.Gen

/-- The losses of the columns of one block, summed: each column's clipped quotient of the exponential of the entry its
    target names by the sum of the column's exponentials. -/
def blockLoss (x : Vec Ideal S1000x2048 .f32) (v : Vec Ideal S1x2048 .i32) : EReal :=
  ∑ b : Fin 2048, Focal.loss (Focal.clip (Ideal.div (Ideal.exp (∑ n : Fin 1000, hitRow (v (ix2 0 b)) x b n))
    (∑ n : Fin 1000, expRow x b n)))

/-- The last step of a point: from the two carried arrays, the sum over the lanes of the losses, added to `acc`. -/
theorem pay_eq (s t : FVec Ideal S8x2048 .f32) (acc : EReal) :
    k0_pay8 (F := Ideal) s t acc = acc + ∑ b : Fin 2048,
      Focal.loss (Focal.clip (Ideal.div (Ideal.exp (∑ a : Fin 8, t (ix2 a b))) (∑ a : Fin 8, s (ix2 a b)))) := by
  unfold k0_pay8 extractAt
  pointwise [Focal.loss, Focal.clip, Focal.lo, Focal.hi]
  exact congrArg (acc + ·) (Fin.sum_univ_one _)

/-- The offset that is zero on both axes. -/
theorem hz : (![0, 0] : Fin 2 → Nat) = fun _ => 0 := funext fun a => by fin_cases a <;> rfl

/-- A point after the first leaves what it found plus the block's loss. -/
theorem out_B (c : Dev nD) (i : grid0.Coords) (a1 : Memref sig .tc .vmem S1000x2048 .f32) (h1 : a1.IsWhole)
    (a2 : Memref sig .tc .vmem S1x2048 .i32) (h2 : a2.IsWhole) (a3 : Memref sig .tc .smem S1x1 .f32) (h3 : a3.IsWhole)
    (hc : ¬cond0_0 i) (x : Vec Ideal S1000x2048 .f32) (v : Vec Ideal S1x2048 .i32) (xo : Vec Ideal S1x1 .f32)
    (j : S1x1.Idx) :
    out0_B_2 (F := Ideal) c i a1 h1 a2 h2 a3 h3 hc x v xo j = (show EReal from xo j) + blockLoss x v := by
  unfold out0_B_2
  rw [View.read_writes_eq_canon _ _ _ (cover0_B_2 c i a1 h1 a2 h2 a3 h3 hc x v xo)]
  unfold kernelRun0_B
  dsimp only
  sl_unfold_words
  simp only [View.readAt_eq_ld, h1.read_unread, h2.read_unread, h3.read_unread]
  rw [View.canon_unit_zero hz, View.ld_unit_zero (S := S1x2048) hz, View.ld_unit_zero (S := S1x1) hz]
  refine (pay_eq _ _ _).trans ?_
  refine congrArg₂ (· + ·) (congrArg xo (by idx_ext)) (Finset.sum_congr rfl fun b _ => ?_)
  exact congrArg (fun q => Focal.loss (Focal.clip q)) (congrArg₂ (fun p q => Ideal.div (Ideal.exp p) q)
    (loop_snd Variants.none c none i a1 h1 a2 h2 a3 h3 v x b) (loop_fst Variants.none c none i a1 h1 a2 h2 a3 h3 v x b))

/-- The first point leaves the block's loss. -/
theorem out_A (c : Dev nD) (i : grid0.Coords) (a1 : Memref sig .tc .vmem S1000x2048 .f32) (h1 : a1.IsWhole)
    (a2 : Memref sig .tc .vmem S1x2048 .i32) (h2 : a2.IsWhole) (a3 : Memref sig .tc .smem S1x1 .f32) (h3 : a3.IsWhole)
    (hc : cond0_0 i) (x : Vec Ideal S1000x2048 .f32) (v : Vec Ideal S1x2048 .i32) (j : S1x1.Idx) :
    out0_A_2 (F := Ideal) c i a1 h1 a2 h2 a3 h3 hc x v j = (0 : EReal) + blockLoss x v := by
  unfold out0_A_2
  rw [View.read_writes_eq_canon _ _ _ (cover0_A_2 c i a1 h1 a2 h2 a3 h3 hc x v)]
  unfold kernelRun0_A
  dsimp only
  sl_unfold_words
  simp only [View.readAt_eq_ld, h1.read_unread, h2.read_unread]
  rw [View.canon_cons_unit_zero (S := S1x1) hz, View.ld_unit_zero (S := S1x2048) hz]
  refine (pay_eq _ _ _).trans ?_
  refine congrArg₂ (· + ·) Ideal.ofBits_zero_f32 (Finset.sum_congr rfl fun b _ => ?_)
  exact congrArg (fun q => Focal.loss (Focal.clip q)) (congrArg₂ (fun p q => Ideal.div (Ideal.exp p) q)
    (loop_snd Variants.none c none i a1 h1 a2 h2 a3 h3 v x b) (loop_fst Variants.none c none i a1 h1 a2 h2 a3 h3 v x b))

end Cert.KernelIdeal.Hand

end
-- ==== Proof.Grid.lean ====
/-
  What the result array holds after the whole grid: the sum over all 16384 rows of the row's loss.
-/
module

public import proofs.«01_k».proof.Proof.Block
public import Idealize.ShloMosaic.Lib.Claim
public import Idealize.ShloMosaic.Lib.Pipeline.FrameTail

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

/-- The loss the kernel computes for row `r`: the clipped quotient of the exponential of the entry the target names by the
    sum of the row's exponentials, no maximum subtracted. -/
def rowLoss (X : FVec Ideal S16384x1000 .f32) (T : IVec S16384 32) (r : Fin 16384) : EReal :=
  Focal.loss (Focal.clip (Ideal.div
    (Ideal.exp (∑ n : Fin 1000, if T (ix1 r) = BitVec.ofNat 32 n then X (ix2 r n) else 0))
    (∑ n : Fin 1000, Ideal.exp (X (ix2 r n)))))

variable (m : (ℓ : Loc nD τ sig) → Buf (Elt Ideal) ℓ)

/-- Both inputs are read at block column `t` at point `t`. -/
theorem idx : ∀ t : Fin cfg0.N, win0_0.index t = ![0, t.val] ∧ win0_1.index t = ![0, t.val] :=
  (by decide +kernel : ∀ t : Fin grid0.N, _)

/-- The grid finds the first input transposed. -/
theorem entry_x (c : Dev nD) : V m c main_call0_v0
    = (transpose S1000x16384 [1, 0] (m ((c : Thread nD τ).loc main_arg0) : FVec Ideal S16384x1000 .f32)
        transposes_S16384x1000_S1000x16384_1_0 : FVec Ideal S1000x16384 .f32) := by
  simp only [V, V0, List.flatten_cons, List.flatten_nil, List.append_nil, hostOps0, StableHlo.TRef.unary,
    StableHlo.TRef.reshape, StableHlo.TRef.toBuf, StableHlo.TRef.ofBuf, cast_eq]
  after_results_simp <;> rfl

/-- The grid finds the targets as one row. -/
theorem entry_t (c : Dev nD) : V m c main_call0_v1
    = (shapeCast S1x16384 (m ((c : Thread nD τ).loc main_arg1) : IVec S16384 32)
        shapeCasts_S16384_S1x16384 : IVec S1x16384 32) := by
  simp only [V, V0, List.flatten_cons, List.flatten_nil, List.append_nil, hostOps0, StableHlo.TRef.unary,
    StableHlo.TRef.reshape, StableHlo.TRef.toBuf, StableHlo.TRef.ofBuf, cast_eq]
  after_results_simp <;> rfl

/-- A transposed array read at an index. -/
theorem transpose_read (X : FVec Ideal S16384x1000 .f32) (n : Fin 1000) (r : Fin 16384) :
    transpose S1000x16384 [1, 0] X transposes_S16384x1000_S1000x16384_1_0 (ix2 n r) = X (ix2 r n) := by pointwise

/-- A vector laid out as one row, read at an index. -/
theorem flat_read (T : IVec S16384 32) (r : Fin 16384) :
    shapeCast S1x16384 T shapeCasts_S16384_S1x16384 (ix2 0 r) = T (ix1 r) := by pointwise

/-- Point `t`'s block of the transposed input: entry `(n, b)` is row `2048 t + b`, column `n` of the input. -/
theorem x_block (c : Dev nD) (t : Fin cfg0.N) (n : Fin 1000) (b : Fin 2048) (h : t.val * 2048 + b.val < 16384) :
    (iblk m c 0 t : Vec Ideal S1000x2048 .f32) (ix2 n b)
      = (m ((c : Thread nD τ).loc main_arg0) : FVec Ideal S16384x1000 .f32) (ix2 ⟨t.val * 2048 + b.val, h⟩ n) := by
  have e : ((cfg0.win 0).blk t).view.emb (ix2 n b : S1000x2048.Idx)
      = (ix2 n ⟨t.val * 2048 + b.val, h⟩ : S1000x16384.Idx) := by blk_ext [idx t]
  show V m c main_call0_v0 (((cfg0.win 0).blk t).view.emb (ix2 n b : S1000x2048.Idx)) = _
  rw [e, entry_x]
  exact transpose_read _ n _

/-- Point `t`'s block of the targets: entry `b` is the target of row `2048 t + b`. -/
theorem t_block (c : Dev nD) (t : Fin cfg0.N) (b : Fin 2048) (h : t.val * 2048 + b.val < 16384) :
    (iblk m c 1 t : Vec Ideal S1x2048 .i32) (ix2 0 b)
      = (m ((c : Thread nD τ).loc main_arg1) : IVec S16384 32) (ix1 ⟨t.val * 2048 + b.val, h⟩) := by
  have e : ((cfg0.win 1).blk t).view.emb (ix2 0 b : S1x2048.Idx)
      = (ix2 0 ⟨t.val * 2048 + b.val, h⟩ : S1x16384.Idx) := by blk_ext [idx t]
  show V m c main_call0_v1 (((cfg0.win 1).blk t).view.emb (ix2 0 b : S1x2048.Idx)) = _
  rw [e, entry_t]
  exact flat_read _ _

/-- The loss of point `t`'s block is the loss of its 2048 rows. -/
theorem block_rows (c : Dev nD) (t : Fin cfg0.N) (b : Fin 2048) (h : t.val * 2048 + b.val < 16384) :
    Focal.loss (Focal.clip (Ideal.div
        (Ideal.exp (∑ n : Fin 1000, hitRow ((iblk m c 1 t : Vec Ideal S1x2048 .i32) (ix2 0 b)) (iblk m c 0 t) b n))
        (∑ n : Fin 1000, expRow (iblk m c 0 t) b n)))
      = rowLoss (m ((c : Thread nD τ).loc main_arg0)) (m ((c : Thread nD τ).loc main_arg1)) ⟨t.val * 2048 + b.val, h⟩ := by
  have hr : ∀ n : Fin 1000, row (iblk m c 0 t) b n
      = (m ((c : Thread nD τ).loc main_arg0) : FVec Ideal S16384x1000 .f32) (ix2 ⟨t.val * 2048 + b.val, h⟩ n) := fun n => by
    unfold row
    rw [dif_pos n.isLt]
    exact x_block m c t n b h
  unfold rowLoss hitRow expRow
  rw [t_block m c t b h]
  simp only [hr]

/-- The result array ends holding the sum of all rows' losses. -/
theorem final (c : Dev nD) : (dats m 0 c).arrAt 2 (cfgs 0).N = fun _ =>
    (∑ r : Fin 16384, rowLoss (m ((c : Thread nD τ).loc main_arg0)) (m ((c : Thread nD τ).loc main_arg1)) r : EReal) := by
  refine (dats m 0 c).arrAt_eq_of_after_last 2 t0_7 (by decide +kernel) _ fun j => ?_
  blk_simp
  rw [after0_2, Pipeline.eq_sum_fin_of_reset_step_apply_last (fun n h => outsAt0 m c n h) 8 (fun _ => (0 : EReal))
    (fun p _ => blockLoss (iblk m c 0 p) (iblk m c 1 p))
    (fun t h j => by rw [outsAt0_A m c t h]; exact out_A c _ _ _ _ _ _ _ _ _ _ j)
    (fun t h j => by rw [outsAt0_B m c t h]; exact out_B c _ _ _ _ _ _ _ _ _ _ _ j)
    (le_of_eq N_0) t0_7 rfl j, zero_add]
  exact Fin.sum_mul_add_congr (fun t b h => block_rows m c t b h)

/-- A reshape of an array that holds one value everywhere holds that value everywhere. -/
theorem shapeCast_const {α : Type} {s t : Shape} (v : s.Idx → α) (h : s.ShapeCasts t) (S : α) (hv : v = fun _ => S) :
    (fun i => shapeCast t v h i) = fun _ => S := by
  subst hv
  rfl

/-- The whole run: the result is the sum of all rows' losses, the arguments are kept. -/
theorem run (ρ : Dev nD → PrngReg) : θ_run defs (onTc (τ := τ) (main (F := Ideal))) ⟨m, fun _ => 0, ρ⟩ fun r => ∀ c : Dev nD,
    r.2.mem ((c : Thread nD τ).loc main_v0) = (fun _ =>
      (∑ r : Fin 16384, rowLoss (m ((c : Thread nD τ).loc main_arg0)) (m ((c : Thread nD τ).loc main_arg1)) r : EReal))
    ∧ r.2.mem ((c : Thread nD τ).loc main_arg0) = m ((c : Thread nD τ).loc main_arg0)
    ∧ r.2.mem ((c : Thread nD τ).loc main_arg1) = m ((c : Thread nD τ).loc main_arg1) := by
  have hr := run_main m ρ
  have hw : ∀ c : Dev nD, Pipeline.afterTail₀ cfgs (dats m) 0 (V0 m) [hostOps1] c main_v0 = (fun _ =>
      (∑ r : Fin 16384, rowLoss (m ((c : Thread nD τ).loc main_arg0)) (m ((c : Thread nD τ).loc main_arg1)) r : EReal)) := by
    intro c
    unfold Pipeline.afterTail₀
    simp only [List.flatten_cons, List.flatten_nil, List.append_nil, hostOps1,
      StableHlo.TRef.reshape, StableHlo.TRef.toBuf, StableHlo.TRef.ofBuf, cast_eq]
    after_results_simp
    have hA := Pipeline.withArrays_arr (cfgs 0).spec launch0.win.arr_inj c (V0 m c)
      (fun w => (dats m 0 c).arrAt w (cfgs 0).N) 2
    rw [final m c] at hA
    exact shapeCast_const _ _ _ hA
  exact (θ_run defs _ _).mono (fun r h c =>
    ⟨((h c).2 main_v0 (Pipeline.mem_restRefs_of main_v0 (by decide) (by decide))).trans (hw c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) hr

end Cert.KernelIdeal.Hand

end
-- ==== Proof.Hot.lean ====
/- The reference's table of ones and zeros: a table of zeros in which row `r` has a one written at the column that
   the target of row `r` names. -/
module

public import proofs.«01_k».proof.Proof.Gen.ReferenceIdeal
public import Idealize.ShloMosaic.Lib.Routing.OpsSet
public import Idealize.ShloMosaic.Lib.Routing.OpsPair
public import Idealize.ShloMosaic.Lib.Pointwise
public import Idealize.ShloMosaic.PureOps.Ideal.Laws

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-- The row numbers, a negative one wrapped round. -/
def rowWords : IVec S16384 32 :=
  select (cmpi .slt (iotaInDim S16384 32 0) (broadcastInDim S16384 ![] bcast_S_S16384 (constantI S_ 32 0#32)))
    (addi (iotaInDim S16384 32 0) (broadcastInDim S16384 ![] bcast_S_S16384 (constantI S_ 32 16384#32))) (iotaInDim S16384 32 0)

/-- The targets, a negative one wrapped round. -/
def colWords (T : IVec S16384 32) : IVec S16384 32 :=
  select (cmpi .slt T (broadcastInDim S16384 ![] bcast_S_S16384 (constantI S_ 32 0#32)))
    (addi T (broadcastInDim S16384 ![] bcast_S_S16384 (constantI S_ 32 1000#32))) T

/-- The pairs (row, column) at which ones are written. -/
def pairs (T : IVec S16384 32) : IVec S16384x2 32 :=
  concatenate S16384x2 1 [⟨S16384x1, broadcastInDim S16384x1 ![0] bcast_S16384_S16384x1_0 rowWords⟩,
    ⟨S16384x1, broadcastInDim S16384x1 ![0] bcast_S16384_S16384x1_0 (colWords T)⟩] concatenates_S16384x1_S16384x1_S16384x2_d1

/-- The table of ones and zeros. -/
def hot (T : IVec S16384 32) : FVec Ideal S16384x1000 .f32 :=
  Host.scatter scatter_S16384x1000_S16384x2_S16384_n_01_01_1 (fun _ b => b)
    (broadcastInDim S16384x1000 ![] bcast_S_S16384x1000 (constant S_ .f32 0x00000000#32)) (pairs T)
    (broadcastInDim S16384 ![] bcast_S_S16384 (constant S_ .f32 0x3F800000#32))

/-- A row number is not negative, so it stays. -/
theorem rowWords_at (k : Fin 16384) : rowWords (ix1 k) = BitVec.ofNat 32 k.val := by
  unfold rowWords
  pointwise
  refine Routing.wrap_of_lt _ _ ?_
  rw [WordCmp.toNat_ofNat_of_lt (by omega)]
  omega

/-- A target below 1000 is not negative, so it stays. -/
theorem colWords_at (T : IVec S16384 32) (k : Fin 16384) (h : (T (ix1 k)).toNat < 1000) : colWords T (ix1 k) = T (ix1 k) := by
  unfold colWords
  pointwise
  exact Routing.wrap_of_lt _ _ (by omega)

/-- The first word of a pair is the row number. -/
theorem pairs_fst (T : IVec S16384 32) (k : Fin 16384) : pairs T (ix2 k (0 : Fin 2)) = BitVec.ofNat 32 k.val := by
  rw [← rowWords_at k]
  unfold pairs
  pointwise

/-- The second word of a pair is the row's target. -/
theorem pairs_snd (T : IVec S16384 32) (k : Fin 16384) (h : (T (ix1 k)).toNat < 1000) : pairs T (ix2 k (1 : Fin 2)) = T (ix1 k) := by
  rw [← colWords_at T k h]
  unfold pairs
  pointwise

/-- On axis `q`, update `k` starts at word `q` of pair `k`, read signed. -/
theorem start_at (J : IVec S16384x2 32) (k : Fin 16384) (q : Fin 2) :
    scatter_S16384x1000_S16384x2_S16384_n_01_01_1.start (ix1 k) J q = (J (ix2 k q)).toInt := by
  fin_cases q
  · refine congrArg (fun i => (J i).toInt) (funext fun b => ?_)
    fin_cases b <;> rfl
  · refine congrArg (fun i => (J i).toInt) (funext fun b => ?_)
    fin_cases b <;> rfl

/-- Update `k` lands at `(r, n)` exactly when the words of pair `k` are `r` and `n`. -/
theorem lands (J : IVec S16384x2 32) (k r : Fin 16384) (n : Fin 1000) :
    scatter_S16384x1000_S16384x2_S16384_n_01_01_1.resultIdx? (ix1 k) J = some (ix2 r n)
      ↔ (J (ix2 k (0 : Fin 2))).toInt = r.val ∧ (J (ix2 k (1 : Fin 2))).toInt = n.val := by
  have h0 : scatter_S16384x1000_S16384x2_S16384_n_01_01_1.window (ix1 k) 0 = 0 := rfl
  have h1 : scatter_S16384x1000_S16384x2_S16384_n_01_01_1.window (ix1 k) 1 = 0 := rfl
  refine (Routing.resultIdx?_ix2 _ _ _ _ _).trans ?_
  rw [start_at, start_at, h0, h1]
  simp only [Nat.cast_zero, add_zero]

/-- With every target below 1000, the table holds a one exactly where the column is the row's target. -/
theorem hot_at (T : IVec S16384 32) (hT : ∀ r : Fin 16384, (T (ix1 r)).toNat < 1000) (r : Fin 16384) (n : Fin 1000) :
    hot T (ix2 r n) = if T (ix1 r) = BitVec.ofNat 32 n.val then (1 : EReal) else 0 := by
  have hl : ∀ k : Fin 16384, scatter_S16384x1000_S16384x2_S16384_n_01_01_1.resultIdx? (ix1 k) (pairs T) = some (ix2 r n)
      ↔ k = r ∧ T (ix1 k) = BitVec.ofNat 32 n.val := by
    intro k
    have hk := hT k
    have hn := n.isLt
    rw [lands, pairs_fst, pairs_snd T k hk, WordCmp.toInt_ofNat_of_lt (by omega), WordCmp.toInt_eq_toNat_of_lt_half (by omega)]
    refine and_congr ⟨fun e => Fin.ext (by omega), fun e => by rw [e]⟩ ⟨fun e => ?_, fun e => ?_⟩
    · refine BitVec.eq_of_toNat_eq ?_
      rw [WordCmp.toNat_ofNat_of_lt (by omega)]
      omega
    · rw [e, WordCmp.toNat_ofNat_of_lt (by omega)]
  unfold hot
  by_cases e : T (ix1 r) = BitVec.ofNat 32 n.val
  · rw [if_pos e]
    refine Routing.scatter_set_hit _ _ _ _ _ _ (fun k _ => ?_) (ix1 r) ((hl r).2 ⟨rfl, e⟩)
    pointwise
  · rw [if_neg e]
    refine (Routing.scatter_set_miss _ _ _ _ _ fun k hk => ?_).trans ?_
    · rw [eq_ix1 k] at hk
      obtain ⟨h, h'⟩ := (hl _).1 hk
      exact e (h ▸ h')
    · pointwise

end Cert.ReferenceIdeal.Hand

end
-- ==== Proof.Reference.lean ====
/- What the reference computes, read entry by entry: the softmax of a row, its clipped value, and the focal loss summed
   over all entries of the table. -/
module

public import proofs.«01_k».proof.Proof.Hot
public import proofs.«01_k».proof.Proof.Focal
public import proofs.«01_k».proof.Proof.Gen.ReferenceIdeal.Run

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-- A column of one value per row, spread over the table. -/
def spread (v : FVec Ideal S16384 .f32) : FVec Ideal S16384x1000 .f32 :=
  broadcastInDim S16384x1000 ![0, 1] bcast_S16384x1_S16384x1000_0_1 (broadcastInDim S16384x1 ![0] bcast_S16384_S16384x1_0 v)

/-- The table that holds one constant everywhere. -/
def every (b : BitVec 32) : FVec Ideal S16384x1000 .f32 :=
  broadcastInDim S16384x1000 ![] bcast_S_S16384x1000 (constant S_ .f32 b)

/-- The greatest entry of each row. -/
def top (X : FVec Ideal S16384x1000 .f32) : FVec Ideal S16384 .f32 :=
  maximumf (broadcastInDim S16384 ![] bcast_S_S16384 (constant S_ .f32 0xFF800000#32))
    (Host.reduce FloatOps.maximumf X (constant S_ .f32 0xFF800000#32) reducesTo_S16384x1000_S16384_d1 h_S_)

/-- The exponentials of the rows, each row less its greatest entry. -/
def expo (X : FVec Ideal S16384x1000 .f32) : FVec Ideal S16384x1000 .f32 :=
  Host.exp (subf X (spread (top X)))

/-- The clipped softmax. -/
def prob (X : FVec Ideal S16384x1000 .f32) : FVec Ideal S16384x1000 .f32 :=
  minimumf (every 0x3F7FFFFE#32) (maximumf (every 0x33D6BF95#32)
    (Host.divf (expo X) (spread (Host.reduceAdd (expo X) (constant S_ .f32 0x00000000#32) reducesTo_S16384x1000_S16384_d1 h_S_))))

/-- The reference's result. -/
def total (X : FVec Ideal S16384x1000 .f32) (T : IVec S16384 32) : FVec Ideal S_ .f32 :=
  Host.reduceAdd (mulf (mulf (mulf (every 0xBF800000#32) (hot T)) (Host.log (prob X)))
    (Host.powf (subf (every 0x3F800000#32) (prob X)) (every 0x40000000#32)))
    (constant S_ .f32 0x00000000#32) reducesTo_S16384x1000_S_d0_1 h_S_

/-- A maximum over a matrix's rows, at a row: the fold of `max` over that row's entries. -/
theorem reduce_rows {R C : ℕ} (x : FVec Ideal ⟨2, ![R, C]⟩ .f32) (e : FVec Ideal S_ .f32)
    (h : (⟨2, ![R, C]⟩ : Shape).ReducesTo [1] ⟨1, ![R]⟩) (hu : 0 < S_.numel) (r : Fin R) :
    Host.reduce FloatOps.maximumf x e h hu (ix1 r) = Finset.univ.fold max (e (Shape.Idx.first hu)) fun n : Fin C => x (ix2 r n) := by
  rw [Host.reduce_eq_fold, h.fold_fiber_r2_a1]
  rfl

/-- The greater of two vectors, entry by entry. -/
theorem max_at {s : Shape} (x y : FVec Ideal s .f32) (i : s.Idx) : maximumf x y i = max (x i) (y i) := rfl

/-- The greatest entry of a row. -/
theorem top_at (X : FVec Ideal S16384x1000 .f32) (r : Fin 16384) :
    top X (ix1 r) = max ⊥ (Finset.univ.fold max ⊥ fun n : Fin 1000 => X (ix2 r n)) := by
  have hb : Ideal.ofBits .f32 0xFF800000#32 = ⊥ := by simp [Ideal.ofBits, Ideal.ieee]
  unfold top
  rw [max_at, reduce_rows X]
  rw [← hb]
  congr 1

/-- An entry's exponential, less the row's greatest entry. -/
theorem expo_at (X : FVec Ideal S16384x1000 .f32) (r : Fin 16384) (n : Fin 1000) :
    expo X (ix2 r n) = Ideal.exp (X (ix2 r n) - top X (ix1 r)) := by
  unfold expo spread
  pointwise

/-- An entry's clipped softmax. -/
theorem prob_at (X : FVec Ideal S16384x1000 .f32) (r : Fin 16384) (n : Fin 1000) :
    prob X (ix2 r n) = Focal.clip (Ideal.div (expo X (ix2 r n)) (∑ k : Fin 1000, expo X (ix2 r k))) := by
  unfold prob spread every Focal.clip Focal.lo Focal.hi
  pointwise

/-- The result: the sum over all rows and classes of the entries' losses. -/
theorem total_at (X : FVec Ideal S16384x1000 .f32) (T : IVec S16384 32) (j : S_.Idx) :
    total X T j = ∑ r : Fin 16384, ∑ n : Fin 1000, ((-1 * hot T (ix2 r n)) * Ideal.log (prob X (ix2 r n)) * Ideal.pow (1 - prob X (ix2 r n)) ((2 : ℝ) : EReal)) := by
  have h1 : Ideal.ofBits .f32 0xBF800000#32 = -1 := by
    rw [show (-1 : EReal) = ((-1 : ℝ) : EReal) by rw [EReal.coe_neg, EReal.coe_one]]
    simp [Ideal.ofBits, Ideal.ieee, -EReal.coe_mul]
    norm_num
  have h2 : Ideal.ofBits .f32 0x40000000#32 = ((2 : ℝ) : EReal) := by
    simp [Ideal.ofBits, Ideal.ieee, -EReal.coe_mul]
    norm_num
  unfold total every
  pointwise
  rw [h1, h2]

/-- The whole run of the reference: the result is `total` of the arguments, the arguments are kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = total (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.ReferenceIdeal.Hand

end
-- ==== Proof.Equation.lean ====
/- The equation: a softmax taken directly and a softmax taken less the row's greatest entry have the same clipped value,
   whatever extended reals the row holds; and what one entry of the reference's table contributes. -/
module

public import proofs.«01_k».proof.Proof.Focal

@[expose] public section

noncomputable section

namespace Cert.Focal

open Idealize.ShloMosaic

/-- The lower bound is a positive real below one. -/
theorem lo_real : ∃ l : ℝ, lo = (l : EReal) ∧ 0 < l ∧ l < 1 := by
  refine ⟨14073749 / 2 ^ 47, ?_, by norm_num, by norm_num⟩
  simp [lo, Ideal.ofBits, Ideal.ieee, -EReal.coe_mul]
  norm_num

/-- The upper bound is a positive real below one. -/
theorem hi_real : ∃ h : ℝ, hi = (h : EReal) ∧ 0 < h ∧ h < 1 := by
  refine ⟨16777214 / 2 ^ 24, ?_, by norm_num, by norm_num⟩
  simp [hi, Ideal.ofBits, Ideal.ieee, -EReal.coe_mul]
  norm_num

/-- A clipped value is a real strictly between zero and one. -/
theorem clip_real (p : EReal) : ∃ q : ℝ, clip p = (q : EReal) ∧ 0 < q ∧ q < 1 := by
  obtain ⟨l, hl, l0, l1⟩ := lo_real
  obtain ⟨h, hh, h0, h1⟩ := hi_real
  have a : 0 < clip p := by
    rw [clip, hl, hh]
    exact lt_min (by exact_mod_cast h0) (lt_max_of_lt_left (by exact_mod_cast l0))
  have b : clip p < 1 := by
    rw [clip, hh]
    exact min_lt_of_left_lt (by exact_mod_cast h1)
  lift clip p to ℝ using ⟨(b.trans (EReal.coe_lt_top 1)).ne, ((EReal.bot_lt_coe 0).trans a).ne'⟩ with q hq
  exact ⟨q, rfl, by exact_mod_cast a, by exact_mod_cast b⟩

/-- An entry whose indicator is one contributes the loss of its clipped probability. -/
theorem entry_hit (p : EReal) :
    -1 * 1 * Ideal.log (clip p) * Ideal.pow (1 - clip p) ((2 : ℝ) : EReal) = loss (clip p) := by
  obtain ⟨q, hq, q0, q1⟩ := clip_real p
  have e : (1 : EReal) - (q : EReal) = ((1 - q : ℝ) : EReal) := by norm_cast
  rw [loss, hq, e, Ideal.pow_coe_coe]
  have hlog : Ideal.log (q : EReal) = (Real.log q : EReal) := by
    rw [Ideal.log_coe, if_neg (not_le.2 q0)]
  have hp : (1 - q).rpow 2 = (1 - q) ^ 2 := Real.rpow_two _
  rw [hlog, hp, mul_one]
  have z : (0 : EReal) - (Real.log q : EReal) = ((0 - Real.log q : ℝ) : EReal) := by norm_cast
  have n : (-1 : EReal) = ((-1 : ℝ) : EReal) := by rw [EReal.coe_neg, EReal.coe_one]
  rw [z, n]
  simp only [← EReal.coe_mul]
  congr 1
  ring

/-- An entry whose indicator is zero contributes nothing. -/
theorem entry_miss (a b : EReal) : -1 * 0 * a * b = 0 := by
  rw [mul_zero, zero_mul, zero_mul]

/-- A finite sum of reals is a real. -/
theorem sum_real {n : ℕ} (e : Fin n → ℝ) : ∑ k, (e k : EReal) = ((∑ k, e k : ℝ) : EReal) := by
  induction n with
  | zero => simp
  | succ n ih => rw [Fin.sum_univ_castSucc, Fin.sum_univ_castSucc, ih, EReal.coe_add]

/-- Below the top, the exponential is a real that is not negative. -/
theorem exp_real (x : EReal) (hx : x ≠ ⊤) : ∃ e : ℝ, Ideal.exp x = (e : EReal) ∧ 0 ≤ e ∧ (x ≠ ⊥ → 0 < e)
    ∧ ∀ M : ℝ, Ideal.exp (x - (M : EReal)) = ((e * Real.exp (-M) : ℝ) : EReal) := by
  induction x with
  | bot => exact ⟨0, Ideal.exp_bot, le_rfl, fun h => absurd rfl h, fun M => by rw [EReal.bot_sub, Ideal.exp_bot, zero_mul, EReal.coe_zero]⟩
  | coe r =>
    refine ⟨Real.exp r, rfl, (Real.exp_pos r).le, fun _ => Real.exp_pos r, fun M => ?_⟩
    rw [← EReal.coe_sub, ← Real.exp_add]
    rfl
  | top => exact absurd rfl hx

/-- An exponential is not negative. -/
theorem exp_nonneg (x : EReal) : 0 ≤ Ideal.exp x := by
  by_cases hx : x = ⊤
  · rw [hx]
    exact le_top
  · obtain ⟨e, he, h0, -⟩ := exp_real x hx
    rw [he]
    exact_mod_cast h0

/-- A ratio of reals with a positive denominator is the real ratio. -/
theorem div_real (a s : ℝ) (hs : 0 < s) : Ideal.div (a : EReal) (s : EReal) = ((a / s : ℝ) : EReal) := by
  rw [Ideal.div, if_neg (by exact_mod_cast hs.ne'), ← EReal.coe_inv, ← EReal.coe_mul, div_eq_mul_inv]

/-- A row without an infinite entry above, with an entry that is not the bottom: the two softmaxes are equal. -/
theorem softmax_real {n : ℕ} (f : Fin n → EReal) (hf : ∀ k, f k ≠ ⊤) (k₀ : Fin n) (hk : f k₀ ≠ ⊥) (M : ℝ) (t : Fin n) :
    Ideal.div (Ideal.exp (f t)) (∑ k, Ideal.exp (f k))
      = Ideal.div (Ideal.exp (f t - (M : EReal))) (∑ k, Ideal.exp (f k - (M : EReal))) := by
  choose e he h0 hpos hM using fun k => exp_real (f k) (hf k)
  have hs : 0 < ∑ k, e k := Finset.sum_pos' (fun k _ => h0 k) ⟨k₀, Finset.mem_univ _, hpos k₀ hk⟩
  have hc := Real.exp_pos (-M)
  simp only [he, hM]
  rw [sum_real, sum_real, ← Finset.sum_mul, div_real _ _ hs, div_real _ _ (mul_pos hs hc), mul_div_mul_right _ _ hc.ne']

/-- A row with an infinite entry above: the direct softmax is zero. -/
theorem softmax_top {n : ℕ} (f : Fin n → EReal) (k₀ : Fin n) (hk : f k₀ = ⊤) (t : Fin n) :
    Ideal.div (Ideal.exp (f t)) (∑ k, Ideal.exp (f k)) = 0 := by
  have hs : ∑ k, Ideal.exp (f k) = ⊤ := by
    refine top_le_iff.1 (le_trans (le_of_eq ?_) (Finset.single_le_sum (fun k _ => exp_nonneg (f k)) (Finset.mem_univ k₀)))
    rw [hk]
    rfl
  rw [hs, Ideal.div, if_neg EReal.top_ne_zero, EReal.inv_top, mul_zero]

/-- Less the top, every entry is the bottom, and the softmax is the division of zero by zero. -/
theorem softmax_less_top {n : ℕ} (f : Fin n → EReal) (t : Fin n) :
    Ideal.div (Ideal.exp (f t - ⊤)) (∑ k, Ideal.exp (f k - ⊤)) = ⊥ := by
  have h : ∀ k, Ideal.exp (f k - ⊤) = 0 := fun k => by
    rw [EReal.sub_top]
    rfl
  simp only [h, Finset.sum_const_zero]
  rw [Ideal.div, if_pos rfl, if_neg (lt_irrefl _)]

/-- Zero and the bottom have the same clipped value. -/
theorem clip_zero : clip 0 = clip ⊥ := by
  obtain ⟨l, hl, l0, l1⟩ := lo_real
  rw [clip, clip, hl, max_eq_left (by exact_mod_cast l0.le), max_eq_left bot_le]

/-- The two softmaxes of any row of extended reals have the same clipped value. -/
theorem clip_softmax {n : ℕ} (f : Fin n → EReal) (t : Fin n) (m : EReal) (hm : m = max ⊥ (Finset.univ.fold max ⊥ f)) :
    clip (Ideal.div (Ideal.exp (f t)) (∑ k, Ideal.exp (f k)))
      = clip (Ideal.div (Ideal.exp (f t - m)) (∑ k, Ideal.exp (f k - m))) := by
  have hm' : m = Finset.univ.fold max ⊥ f := hm.trans (max_eq_right bot_le)
  have hle : ∀ k, f k ≤ m := fun k => hm' ▸ (Finset.le_fold_max _).2 (Or.inr ⟨k, Finset.mem_univ _, le_rfl⟩)
  by_cases ht : ∃ k, f k = ⊤
  · obtain ⟨k₀, hk⟩ := ht
    have e : m = ⊤ := top_le_iff.1 (hk ▸ hle k₀)
    rw [e, softmax_top f k₀ hk, softmax_less_top, clip_zero]
  · have hf : ∀ k, f k ≠ ⊤ := fun k hk => ht ⟨k, hk⟩
    have hmt : m ≠ ⊤ := by
      rw [hm']
      exact ((Finset.fold_max_lt _).2 ⟨bot_lt_top, fun k _ => lt_top_iff_ne_top.2 (hf k)⟩).ne
    by_cases hb : ∃ k, f k ≠ ⊥
    · obtain ⟨k₀, hk⟩ := hb
      have hmb : m ≠ ⊥ := fun e => hk (le_bot_iff.1 (e ▸ hle k₀))
      lift m to ℝ using ⟨hmt, hmb⟩ with M
      rw [softmax_real f hf k₀ hk M t]
    · have hbot : ∀ k, f k = ⊥ := fun k => by_contra fun h => hb ⟨k, h⟩
      simp only [hbot, EReal.bot_sub]

end Cert.Focal

end
-- ==== Proof.Rows.lean ====
/- Row by row, the reference's loss is the kernel's, when every target names a class. -/
module

public import proofs.«01_k».proof.Proof.Grid
public import proofs.«01_k».proof.Proof.Reference
public import proofs.«01_k».proof.Proof.Equation

@[expose] public section

set_option maxRecDepth 16384

noncomputable section

namespace Cert.Rows

open Idealize.ShloMosaic
open Cert.KernelIdeal.Hand (rowLoss)
open Cert.ReferenceIdeal.Hand (hot top expo prob total)

/-- A word below 1000 is the word of exactly one class. -/
theorem word_iff (w : BitVec 32) (h : w.toNat < 1000) (n : Fin 1000) : w = BitVec.ofNat 32 n.val ↔ n = ⟨w.toNat, h⟩ := by
  have hn := n.isLt
  constructor
  · intro e
    refine Fin.ext ?_
    show n.val = w.toNat
    rw [e, WordCmp.toNat_ofNat_of_lt (by omega)]
  · intro e
    refine BitVec.eq_of_toNat_eq ?_
    rw [WordCmp.toNat_ofNat_of_lt (by omega), e]

/-- A sum over the classes that keeps only the one a word below 1000 names is that class's term. -/
theorem sum_hit (w : BitVec 32) (h : w.toNat < 1000) (f : Fin 1000 → EReal) :
    (∑ n : Fin 1000, if w = BitVec.ofNat 32 n.val then f n else 0) = f ⟨w.toNat, h⟩ := by
  simp only [word_iff w h]
  exact (Finset.sum_ite_eq' _ _ _).trans (if_pos (Finset.mem_univ _))

variable (X : FVec Ideal Cert.ReferenceIdeal.S16384x1000 .f32) (T : IVec Cert.ReferenceIdeal.S16384 32)

/-- The reference's clipped softmax, less the row's greatest entry, is the clipped softmax taken directly. -/
theorem prob_eq (r : Fin 16384) (t : Fin 1000) : prob X (ix2 r t)
    = Focal.clip (Ideal.div (Ideal.exp (X (ix2 r t))) (∑ n : Fin 1000, Ideal.exp (X (ix2 r n)))) := by
  have h := Focal.clip_softmax (fun n : Fin 1000 => X (ix2 r n)) t (top X (ix1 r)) (Cert.ReferenceIdeal.Hand.top_at X r)
  rw [Cert.ReferenceIdeal.Hand.prob_at]
  simp only [Cert.ReferenceIdeal.Hand.expo_at]
  exact h.symm

/-- One entry of the reference's table of losses: the loss of its probability where the column is the target, else zero. -/
theorem entry_eq (hT : ∀ r : Fin 16384, (T (ix1 r)).toNat < 1000) (r : Fin 16384) (n : Fin 1000) :
    -1 * hot T (ix2 r n) * Ideal.log (prob X (ix2 r n)) * Ideal.pow (1 - prob X (ix2 r n)) ((2 : ℝ) : EReal)
      = if T (ix1 r) = BitVec.ofNat 32 n.val then Focal.loss (prob X (ix2 r n)) else 0 := by
  rw [Cert.ReferenceIdeal.Hand.hot_at T hT]
  by_cases e : T (ix1 r) = BitVec.ofNat 32 n.val
  · rw [if_pos e, if_pos e, prob_eq]
    exact Focal.entry_hit _
  · rw [if_neg e, if_neg e]
    exact Focal.entry_miss _ _

/-- The reference's result is the sum of the rows' losses as the kernel computes them. -/
theorem total_eq (hT : ∀ r : Fin 16384, (T (ix1 r)).toNat < 1000) :
    total X T = fun _ => (∑ r : Fin 16384, rowLoss X T r : EReal) := by
  funext j
  rw [Cert.ReferenceIdeal.Hand.total_at]
  refine Finset.sum_congr rfl fun r _ => ?_
  simp only [entry_eq X T hT]
  rw [sum_hit _ (hT r), prob_eq]
  unfold rowLoss
  rw [sum_hit _ (hT r)]

end Cert.Rows

end
-- ==== Proof.lean ====
/- Everything claimed of the focal-loss kernel, assembled: the two programs and the reference run and leave their
   arguments and the counters as they were; the idealized kernel is the kernel's own text; and, when every target names
   one of the 1000 classes, the kernel's result equals the reference's over the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Rows
public import Idealize.ShloMosaic.Adequacy
public import Idealize.ShloMosaic.Init

@[expose] public section

noncomputable section

namespace Cert.Proof

open Idealize.ShloMosaic Idealize.SL.Sem

/-- The side condition the precondition's text states: a scalar broadcasts to the targets' shape. -/
theorem preFacts : Cert.Pre_targets_are_classes.Facts := ⟨by decide⟩

/-- The reference runs, keeps its arguments and leaves every counter at zero. -/
theorem reference_frame : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The precondition on the targets says that each, read as a natural number, is below 1000. -/
theorem targets_lt [Cert.Pre_targets_are_classes.Facts] (X : FVec Ideal Cert.Pre_targets_are_classes.S16384x1000 .f32)
    (T : IVec Cert.Pre_targets_are_classes.S16384 32) (h : Cert.Pre_targets_are_classes.fn (F := Ideal) X T = fun _ => 1#1)
    (r : Fin 16384) : (T (ix1 r)).toNat < 1000 := by
  have e : IntOp.andi (IntOp.cmpi .sge (T (ix1 r)) 0#32) (IntOp.cmpi .slt (T (ix1 r)) (BitVec.ofNat 32 1000)) = 1#1 :=
    congrFun h (ix1 r)
  rw [WordCmp.andi_sge_zero_slt_ofNat (by decide)] at e
  exact (WordCmp.ofBool_decide_eq_one_iff _).1 e

/-- With targets that name classes, kernel and reference end with equal results. -/
theorem algebraic [Cert.Pre_targets_are_classes.Facts] :
    Cert.algebraic_KernelIdeal_ReferenceIdeal_pre_targets_are_classes := by
  intro m g m' g' hpre hagree
  refine ⟨fun c => fun _ => (∑ r : Fin 16384, Cert.KernelIdeal.Hand.rowLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) r : EReal),
    Cert.KernelIdeal.Hand.run m g, ?_⟩
  refine (θ_run Cert.ReferenceIdeal.defs _ _).mono (fun r h c => ⟨(h c).1.trans ?_, (h c).2⟩)
    (Cert.ReferenceIdeal.Hand.run m' g')
  rw [(hagree c).1, (hagree c).2]
  exact Cert.Rows.total_eq _ _ (targets_lt _ _ (hpre c))

/-- Everything claimed. -/
theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    letI := preFacts; algebraic⟩

end Cert.Proof

end
